-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_time_shifted [hPre_is_time_shifted : Cert.Pre_is_time_shifted.Facts] (m : (ℓ : Loc Cert.KernelIdeal.nD Cert.KernelIdeal.τ Cert.KernelIdeal.sig) → Buf (Elt Ideal) ℓ) : Prop :=
  ∀ c : Dev Cert.KernelIdeal.nD,
    (Cert.Pre_is_time_shifted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_is_time_shifted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_time_shifted [hPre_is_time_shifted : Cert.Pre_is_time_shifted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_time_shifted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_is_time_shifted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_time_shifted [hKernelIdeal : Cert.KernelIdeal.Facts] [hPre_is_time_shifted : Cert.Pre_is_time_shifted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_time_shifted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_time_shifted [hReferenceIdeal : Cert.ReferenceIdeal.Facts] [hPre_is_time_shifted : Cert.Pre_is_time_shifted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_time_shifted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_is_time_shifted [hKernelIdeal : Cert.KernelIdeal.Facts] [hReferenceIdeal : Cert.ReferenceIdeal.Facts] [hPre_is_time_shifted : Cert.Pre_is_time_shifted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_time_shifted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_time_shifted : Cert.Pre_is_time_shifted.Facts),
    quiescent_Kernel (hKernel := hKernel)
    ∧ quiescent_KernelIdeal (hKernelIdeal := hKernelIdeal)
    ∧ quiescent_KernelIdeal_pre_is_time_shifted (hKernelIdeal := hKernelIdeal) (hPre_is_time_shifted := hPre_is_time_shifted)
    ∧ quiescent_ReferenceIdeal (hReferenceIdeal := hReferenceIdeal)
    ∧ quiescent_ReferenceIdeal_pre_is_time_shifted (hReferenceIdeal := hReferenceIdeal) (hPre_is_time_shifted := hPre_is_time_shifted)
    ∧ preserves_Kernel_KernelIdeal
    ∧ algebraic_KernelIdeal_ReferenceIdeal_pre_is_time_shifted (hKernelIdeal := hKernelIdeal) (hReferenceIdeal := hReferenceIdeal) (hPre_is_time_shifted := hPre_is_time_shifted)
-- ==== Pre_is_time_shifted.lean ====
abbrev S6975x32 : Shape := ⟨2, ![6975, 32]⟩
abbrev S1024x1024 : Shape := ⟨2, ![1024, 1024]⟩
abbrev S16x64x16x64 : Shape := ⟨4, ![16, 64, 16, 64]⟩
abbrev S64x64 : Shape := ⟨2, ![64, 64]⟩
abbrev S1x64x1x64 : Shape := ⟨4, ![1, 64, 1, 64]⟩
abbrev S_ : Shape := ⟨0, ![]⟩

class Facts : Prop where
  shapeCasts_S1024x1024_S16x64x16x64 : S1024x1024.ShapeCasts S16x64x16x64
  slices_S1024x1024_S64x64_0_0 : S1024x1024.Slices ![0, 0] S64x64
  bcast_S64x64_S1x64x1x64_1_3 : S64x64.BroadcastsInDim S1x64x1x64 (![1, 3] : Fin 2 → Fin S1x64x1x64.rank)
  bcast_S_S16x64x16x64 : S_.BroadcastsInDim S16x64x16x64 (![] : Fin 0 → Fin S16x64x16x64.rank)
  bcast_S1x64x1x64_S16x64x16x64_0_1_2_3 : S1x64x1x64.BroadcastsInDim S16x64x16x64 (![0, 1, 2, 3] : Fin 4 → Fin S16x64x16x64.rank)
  bcast_S_S64x64 : S_.BroadcastsInDim S64x64 (![] : Fin 0 → Fin S64x64.rank)

variable [Facts]

def fn {F : FTy → Type} [FloatOps F] (main_arg0 : FVec F S6975x32 .f32) (main_arg1 : IVec S1024x1024 32) : IVec S16x64x16x64 1 × IVec S64x64 1 :=
  let main_v0 : IVec S16x64x16x64 32 := shapeCast S16x64x16x64 main_arg1 shapeCasts_S1024x1024_S16x64x16x64
  let main_v1 : IVec S64x64 32 := (extractStridedSlice S64x64 ![0, 0] · slices_S1024x1024_S64x64_0_0) main_arg1
  let main_v2 : IVec S16x64x16x64 32 := iotaInDim S16x64x16x64 32 0
  let main_v3 : IVec S16x64x16x64 32 := iotaInDim S16x64x16x64 32 2
  let main_v4 : IVec S1x64x1x64 32 := broadcastInDim S1x64x1x64 ![1, 3] bcast_S64x64_S1x64x1x64_1_3 main_v1
  let main_v5 : IVec S16x64x16x64 32 := subi main_v2 main_v3
  let main_c : IVec S_ 32 := constantI S_ 32 225#32
  let main_v6 : IVec S16x64x16x64 32 := broadcastInDim S16x64x16x64 ![] bcast_S_S16x64x16x64 main_c
  let main_v7 : IVec S16x64x16x64 32 := muli main_v5 main_v6
  let main_v8 : IVec S16x64x16x64 32 := broadcastInDim S16x64x16x64 ![0, 1, 2, 3] bcast_S1x64x1x64_S16x64x16x64_0_1_2_3 main_v4
  let main_v9 : IVec S16x64x16x64 32 := addi main_v8 main_v7
  let main_v10 : IVec S16x64x16x64 1 := cmpi .eq main_v0 main_v9
  let main_c_0 : IVec S_ 32 := constantI S_ 32 3375#32
  let main_v11 : IVec S64x64 32 := broadcastInDim S64x64 ![] bcast_S_S64x64 main_c_0
  let main_v12 : IVec S64x64 1 := cmpi .sge main_v1 main_v11
  let main_c_1 : IVec S_ 32 := constantI S_ 32 3600#32
  let main_v13 : IVec S64x64 32 := broadcastInDim S64x64 ![] bcast_S_S64x64 main_c_1
  let main_v14 : IVec S64x64 1 := cmpi .slt main_v1 main_v13
  let main_v15 : IVec S64x64 1 := andi main_v12 main_v14
  (main_v10, main_v15)
-- ==== Kernel.lean ====
abbrev S6975x32 : Shape := ⟨2, ![6975, 32]⟩
abbrev S1024x1024 : Shape := ⟨2, ![1024, 1024]⟩
abbrev S31x225x32 : Shape := ⟨3, ![31, 225, 32]⟩
abbrev S31x32x225 : Shape := ⟨3, ![31, 32, 225]⟩
abbrev S_ : Shape := ⟨0, ![]⟩
abbrev S31x32x256 : Shape := ⟨3, ![31, 32, 256]⟩
abbrev S64x64 : Shape := ⟨2, ![64, 64]⟩
abbrev S4096 : Shape := ⟨1, ![4096]⟩
abbrev S1x4096 : Shape := ⟨2, ![1, 4096]⟩
abbrev S256 : Shape := ⟨1, ![256]⟩
abbrev S256x1 : Shape := ⟨2, ![256, 1]⟩
abbrev S256x4096 : Shape := ⟨2, ![256, 4096]⟩
abbrev S32x1024x1024 : Shape := ⟨3, ![32, 1024, 1024]⟩
abbrev S32x64x128 : Shape := ⟨3, ![32, 64, 128]⟩
abbrev S30x32x64x128 : Shape := ⟨4, ![30, 32, 64, 128]⟩
abbrev S1x32x256 : Shape := ⟨3, ![1, 32, 256]⟩
abbrev S32x256 : Shape := ⟨2, ![32, 256]⟩
abbrev S32x4096 : Shape := ⟨2, ![32, 4096]⟩
abbrev S32x64x64 : Shape := ⟨3, ![32, 64, 64]⟩
abbrev S1x32x64x64 : Shape := ⟨4, ![1, 32, 64, 64]⟩
abbrev S1x32x64x128 : Shape := ⟨4, ![1, 32, 64, 128]⟩

abbrev nBuf : Space → Nat
  | .hbm => 20
  | .vmem => 5
  | .smem => 0
  | _ => 0

abbrev bufTy : (tb : Table) → Fin (tcTables nBuf tb) → BufTy
  | .hbm, ⟨0, _⟩ => ⟨S6975x32, .f32⟩
  | .hbm, ⟨1, _⟩ => ⟨S1024x1024, .i32⟩
  | .hbm, ⟨2, _⟩ => ⟨S31x225x32, .f32⟩
  | .hbm, ⟨3, _⟩ => ⟨S31x32x225, .f32⟩
  | .hbm, ⟨4, _⟩ => ⟨S_, .i32⟩
  | .hbm, ⟨5, _⟩ => ⟨S_, .f32⟩
  | .hbm, ⟨6, _⟩ => ⟨S31x32x256, .f32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S4096, .i32⟩
  | .hbm, ⟨12, _⟩ => ⟨S1x4096, .i32⟩
  | .hbm, ⟨13, _⟩ => ⟨S256, .i32⟩
  | .hbm, ⟨14, _⟩ => ⟨S256x1, .i32⟩
  | .hbm, ⟨15, _⟩ => ⟨S256x4096, .i32⟩
  | .hbm, ⟨16, _⟩ => ⟨S256x4096, .i32⟩
  | .hbm, ⟨17, _⟩ => ⟨S256x4096, .i1⟩
  | .hbm, ⟨18, _⟩ => ⟨S256x4096, .f32⟩
  | .hbm, ⟨19, _⟩ => ⟨S32x1024x1024, .f32⟩
  | .local _ .vmem, ⟨0, _⟩ => ⟨S31x32x256, .f32⟩
  | .local _ .vmem, ⟨1, _⟩ => ⟨S256x4096, .f32⟩
  | .local _ .vmem, ⟨2, _⟩ => ⟨S32x64x128, .f32⟩
  | .local _ .vmem, ⟨3, _⟩ => ⟨S32x64x128, .f32⟩
  | .local _ .vmem, ⟨4, _⟩ => ⟨S30x32x64x128, .f32⟩
  | _, _ => ⟨S6975x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![16, 8], ![false, false]⟩

def k0_off1 (i : grid0.Coords) : Fin 4 → Nat :=
  let c15_i32 : BitVec 32 := 15#32
  let arg0 : BitVec 32 := BitVec.ofNat 32 (i 0).val
  let v5 : BitVec 32 := Scalar.subi c15_i32 arg0
  let c2_i32 : BitVec 32 := 2#32
  let arg1 : BitVec 32 := BitVec.ofNat 32 (i 1).val
  let v6 : BitVec 32 := Scalar.muli c2_i32 arg1
  let v7 : BitVec 32 := Scalar.addi v5 v6
  let v8 : Index := Scalar.indexCast v7
  let c0 : Index := 0#32
  let c0_2 : Index := 0#32
  let c0_3 : Index := 0#32
  ![v8.toNat, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S31x32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6975x32 : Shape := ⟨2, ![6975, 32]⟩
abbrev S1024x1024 : Shape := ⟨2, ![1024, 1024]⟩
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x32 : Shape := ⟨2, ![1048576, 32]⟩
abbrev S1024x1024x32 : Shape := ⟨3, ![1024, 1024, 32]⟩
abbrev S32x1024x1024 : Shape := ⟨3, ![32, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S6975x32, .f32⟩
  | .hbm, ⟨1, _⟩ => ⟨S1024x1024, .i32⟩
  | .hbm, ⟨2, _⟩ => ⟨S1048576, .i32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S1, .i32⟩
  | .hbm, ⟨12, _⟩ => ⟨S_, .i32⟩
  | .hbm, ⟨13, _⟩ => ⟨S1048576x1, .i32⟩
  | .hbm, ⟨14, _⟩ => ⟨S1048576x1, .i1⟩
  | .hbm, ⟨15, _⟩ => ⟨S1x1, .i32⟩
  | .hbm, ⟨16, _⟩ => ⟨S1048576x1, .i32⟩
  | .hbm, ⟨17, _⟩ => ⟨S1048576x1, .i1⟩
  | .hbm, ⟨18, _⟩ => ⟨S1048576x1, .i1⟩
  | .hbm, ⟨19, _⟩ => ⟨S_, .i1⟩
  | .hbm, ⟨20, _⟩ => ⟨S1048576, .i1⟩
  | .hbm, ⟨21, _⟩ => ⟨S1048576x32, .f32⟩
  | .hbm, ⟨22, _⟩ => ⟨S1048576x32, .i1⟩
  | .hbm, ⟨23, _⟩ => ⟨S_, .f32⟩
  | .hbm, ⟨24, _⟩ => ⟨S1048576x32, .f32⟩
  | .hbm, ⟨25, _⟩ => ⟨S1048576x32, .f32⟩
  | .hbm, ⟨26, _⟩ => ⟨S1024x1024x32, .f32⟩
  | .hbm, ⟨27, _⟩ => ⟨S32x1024x1024, .f32⟩
  | _, _ => ⟨S6975x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Tile.lean ====
/-
  WHAT THE FIRST POINT LEAVES IN THE CARRIED SCRATCH. The kernel's body, at the first point of the grid, multiplies each
  of the 31 padded rows of the table with the one-hot matrix and stores the product, as 32 planes of 64 by 64, in two
  places of a scratch of 30 slabs: row `a` goes to the left half of slab `30 - a` and to the right half of slab `29 - a`.
  This file says what the scratch then holds, at every index, as one formula (`tile`).
-/
module

public import proofs.«01_k».proof.Proof.Gen.KernelIdeal.Value
public import Idealize.ShloMosaic.Lib.Pointwise

@[expose] public section

set_option maxRecDepth 16384

noncomputable section

namespace Cert.KernelIdeal.Bias

open Idealize.ShloMosaic Idealize.ShloMosaic.TcCoe Idealize.ShloMosaic.Tactic
open Cert.KernelIdeal Cert.KernelIdeal.Gen

/-- One row of 32 by 256 times the matrix, as 32 planes of 64 by 64. -/
def slab (row : Vec Ideal S1x32x256 .f32) (u : Vec Ideal S256x4096 .f32) : FVec Ideal S1x32x64x64 .f32 :=
  shapeCast S1x32x64x64 (shapeCast S32x64x64 (matmul (φ₁ := .f32) (φ₂ := .f32) dot_S32x256_S256x4096_S32x4096_1_0_0_1_n_n (some .fp32)
    (shapeCast S32x256 row shapeCasts_S1x32x256_S32x256) (shapeCast S256x4096 u shapeCasts_S256x4096_S256x4096)
    (constant S32x4096 .f32 0x00000000#32)) shapeCasts_S32x4096_S32x64x64) shapeCasts_S32x64x64_S1x32x64x64

/-- Entry `(h, p, q)` of the product is the sum over the 256 columns `w` of the row's entry `(h, w)` times the matrix's
entry `(w, 64 p + q)`. -/
theorem slab_apply (row : Vec Ideal S1x32x256 .f32) (u : Vec Ideal S256x4096 .f32) (z : Fin 1) (h : Fin 32) (p q : Fin 64) :
    slab row u (ix4 z h p q)
      = ∑ w : Fin 256, row (ix3 (0 : Fin 1) h w) * u (ix2 w (⟨p.val * 64 + q.val, by omega⟩ : Fin 4096)) := by
  pointwise [slab]

/-- The row of the table that slab `k` of the scratch holds at column `q`: `30 - k` in the left half, `29 - k` in the
right. -/
def rowOf (k : Fin 30) (q : Fin 128) : Fin 31 := ⟨(if q.val < 64 then 30 else 29) - k.val, by split <;> omega⟩

/-- What the scratch holds: at `(k, h, p, q)`, entry `(h, p, q mod 64)` of the product of row `rowOf k q`. -/
def tile (a : Vec Ideal S31x32x256 .f32) (u : Vec Ideal S256x4096 .f32) (k : Fin 30) (h : Fin 32) (p : Fin 64) (q : Fin 128) :
    Ideal .f32 :=
  ∑ w : Fin 256, a (ix3 (rowOf k q) h w) * u (ix2 w (⟨p.val * 64 + q.val % 64, by omega⟩ : Fin 4096))

/-- `tile` as an array. -/
def tiles (a : Vec Ideal S31x32x256 .f32) (u : Vec Ideal S256x4096 .f32) : Vec Ideal S30x32x64x128 .f32 :=
  fun y => tile a u (y 0) (y 1) (y 2) (y 3)

/-- ONE STORE: the product of row `r`, stored at slab `k` from column `o`, is `tiles` there, as soon as `k` and `o` are
where the row belongs. -/
theorem store_eq (arg2 : Memref sig .tc .vmem S31x32x256 .f32) (harg2 : arg2.IsWhole)
    (arg3 : Memref sig .tc .vmem S256x4096 .f32) (harg3 : arg3.IsWhole)
    (a : Vec Ideal S31x32x256 .f32) (u : Vec Ideal S256x4096 .f32) (r k o : ℕ)
    (hr : ∀ d, (![r, 0, 0] : Fin 3 → ℕ) d + S1x32x256.size d ≤ S31x32x256.size d)
    (hk : ∀ d, (![k, 0, 0, o] : Fin 4 → ℕ) d + S1x32x64x64.size d ≤ S30x32x64x128.size d)
    (hu : ∀ d, (![0, 0] : Fin 2 → ℕ) d + S256x4096.size d ≤ S256x4096.size d)
    (hrow : (o = 0 ∧ r + k = 30) ∨ (o = 64 ∧ r + k = 29)) (x : S1x32x64x64.Idx) :
    slab (View.readAt (Elt Ideal) arg2.view (Rect.unit (s := S31x32x256) ![r, 0, 0] S1x32x256.size hr).toLoadRect (harg2.unread a))
        (View.readAt (Elt Ideal) arg3.view (Rect.unit (s := S256x4096) ![0, 0] S256x4096.size hu).toLoadRect (harg3.unread u)) x
      = tiles a u ((Rect.unit (s := S30x32x64x128) ![k, 0, 0, o] S1x32x64x64.size hk).emb x) := by
  have hz : (![0, 0] : Fin 2 → ℕ) = fun _ => 0 := by decide
  idx_vars x
  rw [slab_apply, View.readAt_eq_ld, View.readAt_eq_ld, harg2.read_unread, harg3.read_unread,
    View.ld_unit_zero (S := S256x4096) hz]
  have hk0 : k + 1 ≤ 30 := hk 0
  have hemb : (Rect.unit (s := S30x32x64x128) ![k, 0, 0, o] S1x32x64x64.size hk).emb (ix4 x0 x1 x2 x3)
      = ix4 (⟨k, by omega⟩ : Fin 30) x1 x2 (⟨o + x3.val, by omega⟩ : Fin 128) := by
    funext d
    apply Fin.ext
    match d with
    | ⟨0, _⟩ => show k + 1 * x0.val = k; omega
    | ⟨1, _⟩ => show 0 + 1 * x1.val = x1.val; omega
    | ⟨2, _⟩ => show 0 + 1 * x2.val = x2.val; omega
    | ⟨3, _⟩ => show o + 1 * x3.val = o + x3.val; omega
  rw [hemb]
  unfold tiles tile
  refine Finset.sum_congr rfl fun w _ => ?_
  pointwise []
  have hr' : (⟨r, by have : r + 1 ≤ 31 := hr 0; omega⟩ : Fin 31) = rowOf ⟨k, by omega⟩ ⟨o + x3.val, by omega⟩ := by
    apply Fin.ext; unfold rowOf; dsimp only; split <;> omega
  have hc : (⟨x2.val * 64 + x3.val, by omega⟩ : Fin 4096) = ⟨x2.val * 64 + (o + x3.val) % 64, by omega⟩ := by
    apply Fin.ext; dsimp only; omega
  rw [hr', hc]

/-- WHAT THE FIRST POINT LEAVES IN THE SCRATCH: `tiles` of the padded table and the one-hot matrix. -/
theorem sout_eq (c : Dev nD) (i : grid0.Coords) (arg2 : Memref sig .tc .vmem S31x32x256 .f32) (harg2 : arg2.IsWhole)
    (arg3 : Memref sig .tc .vmem S256x4096 .f32) (harg3 : arg3.IsWhole) (arg4 : Memref sig .tc .vmem S32x64x128 .f32)
    (harg4 : arg4.IsWhole) (arg5 : Memref sig .tc .vmem S30x32x64x128 .f32) (harg5 : arg5.IsWhole) (hc0 : cond0_0 i)
    (a : Vec Ideal S31x32x256 .f32) (u : Vec Ideal S256x4096 .f32) :
    sout0_A_0 (F := Ideal) c i arg2 harg2 arg3 harg3 arg4 harg4 arg5 harg5 hc0 a u = tiles a u := by
  funext y
  unfold sout0_A_0
  refine View.read_writes_apply_of_pieces _ _ (tiles a u) _ ?_ y (scover0_A_0 (F := Ideal) c i arg2 harg2 arg3 harg3 arg4 harg4 arg5 harg5 hc0 a u y)
  unfold kernelRun0_A
  dsimp only
  sl_unfold_words
  iterate 60
    refine List.forall_mem_cons.2 ⟨store_eq arg2 harg2 arg3 harg3 a u _ _ _ (by decide) (by decide) (by decide) (by decide), ?_⟩
  exact fun _ h => absurd h List.not_mem_nil

/-- The slab that a point shows: `15 - i + 2 j` at the point `(i, j)` of the grid. -/
def slabOf (i : grid0.Coords) : Fin 30 :=
  ⟨15 - (i 0).val + 2 * (i 1).val, by have h0 : (i 0).val < 16 := (i 0).isLt; have h1 : (i 1).val < 8 := (i 1).isLt; omega⟩

/-- The kernel's own computation of that slab in 32-bit words does not wrap. -/
theorem off1_eq (i : grid0.Coords) : k0_off1 i = ![(slabOf i).val, 0, 0, 0] := by
  have h0 : (i 0).val < 16 := (i 0).isLt
  have h1 : (i 1).val < 8 := (i 1).isLt
  unfold k0_off1 slabOf
  have e : (Scalar.indexCast (Scalar.addi (Scalar.subi 15#32 (BitVec.ofNat 32 (i 0).val))
      (Scalar.muli 2#32 (BitVec.ofNat 32 (i 1).val)))).toNat = 15 - (i 0).val + 2 * (i 1).val := by
    generalize (i 0).val = n0 at h0
    generalize (i 1).val = n1 at h1
    interval_cases n0 <;> interval_cases n1 <;> decide
  dsimp only
  rw [e]

/-- A load of one slab of the scratch, reshaped to the output block, reads the scratch at that slab. -/
theorem load_apply (S : Vec Ideal S30x32x64x128 .f32) (i : grid0.Coords)
    (hin : ∀ d, k0_off1 i d + S1x32x64x128.size d ≤ S30x32x64x128.size d) (h : Fin 32) (p : Fin 64) (q : Fin 128) :
    k0_pay2 (fun x : S1x32x64x128.Idx => S ((Rect.unit (s := S30x32x64x128) (k0_off1 i) S1x32x64x128.size hin).toLoadRect.idx x)) (ix3 h p q)
      = S (ix4 (slabOf i) h p q) := by
  have hidx : ∀ z : Fin 1, (Rect.unit (s := S30x32x64x128) (k0_off1 i) S1x32x64x128.size hin).toLoadRect.idx (ix4 z h p q)
      = ix4 (slabOf i) h p q := by
    intro z
    have e := off1_eq i
    funext d
    apply Fin.ext
    match d with
    | ⟨0, _⟩ => show k0_off1 i 0 + 1 * z.val = (slabOf i).val; rw [congrFun e 0]; show (slabOf i).val + 1 * z.val = _; omega
    | ⟨1, _⟩ => show k0_off1 i 1 + 1 * h.val = h.val; rw [congrFun e 1]; show 0 + 1 * h.val = _; omega
    | ⟨2, _⟩ => show k0_off1 i 2 + 1 * p.val = p.val; rw [congrFun e 2]; show 0 + 1 * p.val = _; omega
    | ⟨3, _⟩ => show k0_off1 i 3 + 1 * q.val = q.val; rw [congrFun e 3]; show 0 + 1 * q.val = _; omega
  rw [← hidx 0]
  generalize (Rect.unit (s := S30x32x64x128) (k0_off1 i) S1x32x64x128.size hin).toLoadRect.idx = f
  pointwise [k0_pay2]

/-- THE OUTPUT BLOCK OF THE FIRST POINT. -/
theorem outA_apply (c : Dev nD) (i : grid0.Coords) (arg2 : Memref sig .tc .vmem S31x32x256 .f32) (harg2 : arg2.IsWhole)
    (arg3 : Memref sig .tc .vmem S256x4096 .f32) (harg3 : arg3.IsWhole) (arg4 : Memref sig .tc .vmem S32x64x128 .f32)
    (harg4 : arg4.IsWhole) (arg5 : Memref sig .tc .vmem S30x32x64x128 .f32) (harg5 : arg5.IsWhole) (hc0 : cond0_0 i)
    (a : Vec Ideal S31x32x256 .f32) (u : Vec Ideal S256x4096 .f32) (h : Fin 32) (p : Fin 64) (q : Fin 128) :
    out0_A_2 (F := Ideal) c i arg2 harg2 arg3 harg3 arg4 harg4 arg5 harg5 hc0 a u (ix3 h p q) = tile a u (slabOf i) h p q := by
  have hz : (![0, 0, 0] : Fin 3 → ℕ) = fun _ => 0 := by decide
  unfold out0_A_2
  rw [View.read_writes_eq_canon _ _ _ (cover0_A_2 (F := Ideal) c i arg2 harg2 arg3 harg3 arg4 harg4 arg5 harg5 hc0 a u)]
  unfold kernelRun0_A
  dsimp only
  rw [View.canon_unit_zero hz]
  have hc : View.canon (kernelRun0_A (F := Ideal) c i arg2 harg2 arg3 harg3 arg4 harg4 arg5 harg5 hc0 a u).2.1 = tiles a u := by
    rw [← View.read_writes_eq_canon VS0_0 _ _ (scover0_A_0 (F := Ideal) c i arg2 harg2 arg3 harg3 arg4 harg4 arg5 harg5 hc0 a u)]
    exact sout_eq c i arg2 harg2 arg3 harg3 arg4 harg4 arg5 harg5 hc0 a u
  unfold kernelRun0_A at hc
  dsimp only at hc
  unfold kernelRun0_A.sl.v9
  rw [View.readAt_writes_junk_eq_canon, hc]
  exact load_apply (tiles a u) i _ h p q

/-- THE OUTPUT BLOCK OF EVERY OTHER POINT: the slab of the scratch that the point was given. -/
theorem outB_apply (c : Dev nD) (i : grid0.Coords) (arg2 : Memref sig .tc .vmem S31x32x256 .f32) (harg2 : arg2.IsWhole)
    (arg3 : Memref sig .tc .vmem S256x4096 .f32) (harg3 : arg3.IsWhole) (arg4 : Memref sig .tc .vmem S32x64x128 .f32)
    (harg4 : arg4.IsWhole) (arg5 : Memref sig .tc .vmem S30x32x64x128 .f32) (harg5 : arg5.IsWhole) (hc0 : ¬cond0_0 i)
    (a : Vec Ideal S31x32x256 .f32) (u : Vec Ideal S256x4096 .f32) (S : Vec Ideal S30x32x64x128 .f32)
    (h : Fin 32) (p : Fin 64) (q : Fin 128) :
    out0_B_2 (F := Ideal) c i arg2 harg2 arg3 harg3 arg4 harg4 arg5 harg5 hc0 a u S (ix3 h p q) = S (ix4 (slabOf i) h p q) := by
  have hz : (![0, 0, 0] : Fin 3 → ℕ) = fun _ => 0 := by decide
  unfold out0_B_2
  rw [View.read_writes_eq_canon _ _ _ (cover0_B_2 (F := Ideal) c i arg2 harg2 arg3 harg3 arg4 harg4 arg5 harg5 hc0 a u S)]
  unfold kernelRun0_B
  dsimp only
  rw [View.canon_unit_zero hz, View.readAt_eq_ld, harg5.read_unread]
  exact load_apply S i _ h p q

end Cert.KernelIdeal.Bias

end
-- ==== Proof.Array.lean ====
/-
  WHAT THE RESULT ARRAY HOLDS. The scratch that the first point builds is carried unchanged to every later point, and
  each point writes one slab of it back as its block; so the result, at every index, is an entry of the scratch that the
  padded table and the one-hot matrix determine.
-/
module

public import proofs.«01_k».proof.Proof.Tile

@[expose] public section

set_option maxRecDepth 16384

noncomputable section

namespace Cert.KernelIdeal.Bias

open Idealize.ShloMosaic Idealize.ShloMosaic.TcCoe Idealize.ShloMosaic.Tactic
open Cert.KernelIdeal Cert.KernelIdeal.Gen Cert.KernelIdeal.Value

variable (m : (ℓ : Loc nD τ sig) → Buf (Elt Ideal) ℓ) (c : Dev nD)

/-- The padded table as the kernel finds it: 31 rows of 32 by 256. -/
def tab : Vec Ideal S31x32x256 .f32 := V m c main_v2

/-- The one-hot matrix as the kernel finds it. -/
def hot : Vec Ideal S256x4096 .f32 := V m c main_v13

/-- At every point the first input's block is the whole padded table. -/
theorem iblk0_eq (t : Fin cfg0.N) : (iblk m c 0 t : Vec Ideal S31x32x256 .f32) = tab m c := by
  funext y
  refine congrArg (tab m c) (?_ : ((cfg0.win 0).blk t).view.emb y = y)
  funext a
  apply Fin.ext
  match a with
  | ⟨0, _⟩ => show 0 * 31 + 1 * (y 0).val = (y 0).val; omega
  | ⟨1, _⟩ => show 0 * 32 + 1 * (y 1).val = (y 1).val; omega
  | ⟨2, _⟩ => show 0 * 256 + 1 * (y 2).val = (y 2).val; omega

/-- At every point the second input's block is the whole one-hot matrix. -/
theorem iblk1_eq (t : Fin cfg0.N) : (iblk m c 1 t : Vec Ideal S256x4096 .f32) = hot m c := by
  funext y
  refine congrArg (hot m c) (?_ : ((cfg0.win 1).blk t).view.emb y = y)
  funext a
  apply Fin.ext
  match a with
  | ⟨0, _⟩ => show 0 * 256 + 1 * (y 0).val = (y 0).val; omega
  | ⟨1, _⟩ => show 0 * 4096 + 1 * (y 1).val = (y 1).val; omega

/-- THE CARRIED SCRATCH after any point. -/
theorem scratch_eq : ∀ (n : ℕ) (hn : n < cfg0.N), (outsAt0 m c n hn).2 = tiles (tab m c) (hot m c) := by
  intro n
  induction n with
  | zero =>
    intro hn
    rw [outsAt0_A m c ⟨0, hn⟩ (Nat.zero_mod _)]
    dsimp only
    rw [sout_eq, iblk0_eq, iblk1_eq]
  | succ n ih =>
    intro hn
    have hN : n + 1 < 128 := lt_of_lt_of_eq hn N_0
    rw [outsAt0_B m c ⟨n + 1, hn⟩ (by dsimp only; omega)]
    exact ih _

/-- THE OUTPUT BLOCK after any point: the slab that the point shows. -/
theorem block_apply (t : Fin cfg0.N) (h : Fin 32) (p : Fin 64) (q : Fin 128) :
    (outsAt0 m c t.val t.isLt).1 (ix3 h p q) = tile (tab m c) (hot m c) (slabOf (grid0.coords t)) h p q := by
  by_cases h0 : t.val % 128 = 0
  · rw [outsAt0_A m c t h0]
    dsimp only
    rw [outA_apply, iblk0_eq, iblk1_eq]
  · rw [outsAt0_B m c t h0]
    dsimp only
    rw [outB_apply, scratch_eq]
    rfl

/-- THE RESULT at `(h, i, j)`: the entry `(h, i mod 64, j mod 128)` of slab `15 - i / 64 + 2 (j / 128)`. -/
theorem result_apply (h : Fin 32) (i j : Fin 1024) :
    (G2 m c : Vec Ideal S32x1024x1024 .f32) (ix3 h i j)
      = tile (tab m c) (hot m c) ⟨15 - i.val / 64 + 2 * (j.val / 128), by omega⟩ h ⟨i.val % 64, by omega⟩ ⟨j.val % 128, by omega⟩ := by
  have hp : pt2Of (ix3 h i j) = 8 * (i.val / 64) + j.val / 128 := by
    show 128 * (h.val / 32 - 0) + 8 * (i.val / 64 - 0) + 1 * (j.val / 128 - 0) = _
    omega
  have hlt : pt2Of (ix3 h i j) < cfg0.N := by rw [hp, show cfg0.N = 128 from N_0]; omega
  have hl : loc2Of (ix3 h i j) = ix3 h (⟨i.val % 64, by omega⟩ : Fin 64) (⟨j.val % 128, by omega⟩ : Fin 128) := by
    funext a
    apply Fin.ext
    match a with
    | ⟨0, _⟩ => show h.val % 32 = h.val; omega
    | ⟨1, _⟩ => rfl
    | ⟨2, _⟩ => rfl
  unfold G2
  rw [dif_pos hlt, hl, ← outsAt0_sweep m c _ hlt]
  refine (block_apply m c ⟨pt2Of (ix3 h i j), hlt⟩ _ _ _).trans (congrArg (fun k => tile (tab m c) (hot m c) k h _ _) ?_)
  apply Fin.ext
  unfold slabOf
  dsimp only
  have e0 : (grid0.coords (⟨pt2Of (ix3 h i j), hlt⟩ : Fin grid0.N) 0).val = pt2Of (ix3 h i j) / 8 % 16 :=
    Pipeline.Grid.coords_val (G := grid0) ⟨pt2Of (ix3 h i j), hlt⟩ 0 (by decide) rfl
  have e1 : (grid0.coords (⟨pt2Of (ix3 h i j), hlt⟩ : Fin grid0.N) 1).val = pt2Of (ix3 h i j) / 1 % 8 :=
    Pipeline.Grid.coords_val (G := grid0) ⟨pt2Of (ix3 h i j), hlt⟩ 1 (by decide) rfl
  rw [e0, e1, hp]
  omega

end Cert.KernelIdeal.Bias

end
-- ==== Proof.Host.lean ====
/-
  THE KERNEL'S TWO INPUTS, read at an index: the padded table, whose row `a` holds the entries `225 a` to `225 a + 224` of
  the table with the two axes exchanged and 31 zeros after them; and the one-hot matrix, whose column `64 p + q` has its
  one at the row `rel_index[p, q] - 3375`.
-/
module

public import proofs.«01_k».proof.Proof.Array
public import Idealize.ShloMosaic.Lib.StableHlo.ReadAt

@[expose] public section

set_option maxRecDepth 16384

noncomputable section

namespace Cert.KernelIdeal.Bias

open Idealize.ShloMosaic Idealize.ShloMosaic.TcCoe Idealize.ShloMosaic.Tactic
open Cert.KernelIdeal Cert.KernelIdeal.Gen Cert.KernelIdeal.Value

variable (m : (ℓ : Loc nD τ sig) → Buf (Elt Ideal) ℓ) (c : Dev nD)

/-- The table, as the program finds it. -/
def table : Vec Ideal S6975x32 .f32 := m ((c : Thread nD τ).loc main_arg0)

/-- The index table, as the program finds it. -/
def rel : IVec S1024x1024 32 := m ((c : Thread nD τ).loc main_arg1)

/-- The padded table at a column that the table fills. -/
theorem tab_apply (a : Fin 31) (h : Fin 32) (w : Fin 256) (hw : w.val < 225) :
    tab m c (ix3 a h w) = table m c (ix2 (⟨a.val * 225 + w.val, by omega⟩ : Fin 6975) h) := by
  unfold tab V
  simp only [hostOps0, hostOps0_1, hostOps0_2, List.flatten_cons, List.flatten_nil, List.cons_append, List.nil_append, List.append_nil]
  after_reads_at
  exact dif_pos hw

/-- The one-hot matrix. -/
theorem hot_apply (w : Fin 256) (p q : Fin 64) :
    hot m c (ix2 w (⟨p.val * 64 + q.val, by omega⟩ : Fin 4096))
      = if rel m c (ix2 (⟨p.val, by omega⟩ : Fin 1024) (⟨q.val, by omega⟩ : Fin 1024)) - 3375#32 = BitVec.ofNat 32 w.val then 1 else 0 := by
  unfold hot V
  simp only [hostOps0, hostOps0_1, hostOps0_2, List.flatten_cons, List.flatten_nil, List.cons_append, List.nil_append, List.append_nil]
  after_reads_at
  have hp : (⟨(p.val * 64 + q.val) / 64, by omega⟩ : Fin 1024) = ⟨p.val, by omega⟩ := Fin.ext (by dsimp only; omega)
  have hq : (⟨(p.val * 64 + q.val) % 64, by omega⟩ : Fin 1024) = ⟨q.val, by omega⟩ := Fin.ext (by dsimp only; omega)
  rw [hp, hq]
  show FloatOps.uitofp .f32 (IntOp.cmpi .eq (rel m c (ix2 (⟨p.val, by omega⟩ : Fin 1024) (⟨q.val, by omega⟩ : Fin 1024)) - 3375#32) (BitVec.ofNat 32 w.val)) = _
  generalize rel m c (ix2 (⟨p.val, by omega⟩ : Fin 1024) (⟨q.val, by omega⟩ : Fin 1024)) - 3375#32 = x
  generalize BitVec.ofNat 32 w.val = y
  by_cases e : x = y
  · subst e
    rw [if_pos rfl, IntOp.cmpi_eq_self]
    show (((1#1 : BitVec 1).toNat : ℝ) : EReal) = 1
    norm_num
  · rw [if_neg e]
    have e0 : IntOp.cmpi .eq x y = 0#1 := by
      show BitVec.ofBool (x == y) = 0#1
      rw [beq_false_of_ne e]
      rfl
    rw [e0]
    show (((0#1 : BitVec 1).toNat : ℝ) : EReal) = 0
    norm_num

end Cert.KernelIdeal.Bias

end
-- ==== Proof.Reference.lean ====
/-
  WHAT THE REFERENCE COMPUTES. Its `take` wraps a negative index, gathers the rows of the table, and puts a not-a-number
  where an index is out of range; then it reshapes and exchanges axes. At an index that is in range none of the guards
  matters, and the result at `(h, i, j)` is the table's entry `h` of the row that the index table names at `(i, j)`.
-/
module

public import proofs.«01_k».proof.Proof.Gen.ReferenceIdeal.Run
public import Idealize.ShloMosaic.Lib.Pointwise
public import Idealize.ShloMosaic.Lib.Pointwise.IndexBridge
public import Idealize.ShloMosaic.Lib.Routing.Ops
public import Idealize.ShloMosaic.Lib.Routing.OpsPair

@[expose] public section

set_option maxRecDepth 16384

noncomputable section

namespace Cert.ReferenceIdeal.Bias

open Idealize.ShloMosaic Idealize.ShloMosaic.TcCoe Idealize.ShloMosaic.Tactic
open Cert.ReferenceIdeal Cert.ReferenceIdeal.Gen

/-- The index table as one line of words. -/
def flat (R : IVec S1024x1024 32) : IVec S1048576 32 := shapeCast S1048576 R shapeCasts_S1024x1024_S1048576

/-- The row that each place asks for: its word, wrapped once if it is negative. -/
def starts (R : IVec S1024x1024 32) : IVec S1048576x1 32 :=
  broadcastInDim S1048576x1 ![0] bcast_S1048576_S1048576x1_0
    (select (cmpi .slt (flat R) (broadcastInDim S1048576 ![] bcast_S_S1048576 (constantI S_ 32 0#32)))
      (addi (flat R) (broadcastInDim S1048576 ![] bcast_S_S1048576 (constantI S_ 32 6975#32))) (flat R))

/-- Whether that row is one of the table's 6975. -/
def inRange (R : IVec S1024x1024 32) : IVec S1048576 1 :=
  Host.reduce IntOp.andi
    (andi (cmpi .sge (starts R) (broadcastInDim S1048576x1 ![] bcast_S_S1048576x1 (constantI S_ 32 0#32)))
      (cmpi .sle (starts R) (broadcastInDim S1048576x1 ![0, 1] bcast_S1x1_S1048576x1_0_1
        (broadcastInDim S1x1 ![1] bcast_S1_S1x1_1 (constantI S1 32 6974#32)))))
    (constantI S_ 1 1#1) reducesTo_S1048576x1_S1048576_d1 h_S_

/-- The reference's result, as its operations compute it. -/
def result (T : Vec Ideal S6975x32 .f32) (R : IVec S1024x1024 32) : Vec Ideal S32x1024x1024 .f32 :=
  transpose S32x1024x1024 [2, 0, 1] (shapeCast S1024x1024x32
    (select (broadcastInDim S1048576x32 ![0] bcast_S1048576_S1048576x32_0 (inRange R))
      (Host.gather gather_S6975x32_S1048576x1_S1048576x32_1_0_n_n_0_1_132 T (starts R))
      (broadcastInDim S1048576x32 ![] bcast_S_S1048576x32 (constant (F := Ideal) S_ .f32 0x7FC00000#32)))
    shapeCasts_S1048576x32_S1024x1024x32) transposes_S1024x1024x32_S32x1024x1024_2_0_1

/-- A word in range is not wrapped. -/
theorem starts_apply (R : IVec S1024x1024 32) (i j : Fin 1024) (hr : (R (ix2 i j)).toNat < 6975) :
    starts R (ix2 (⟨i.val * 1024 + j.val, by omega⟩ : Fin 1048576) (0 : Fin 1)) = R (ix2 i j) := by
  pointwise [starts, flat]
  exact Routing.wrap_of_lt _ _ (by norm_num; omega)

/-- A word in range passes the test. -/
theorem inRange_apply (R : IVec S1024x1024 32) (i j : Fin 1024) (hr : (R (ix2 i j)).toNat < 6975) :
    inRange R (ix1 (⟨i.val * 1024 + j.val, by omega⟩ : Fin 1048576)) = 1#1 := by
  pointwise [inRange]
  rw [Finset.univ_unique, Finset.fold_singleton]
  have e : (default : Fin 1) = 0 := rfl
  rw [e, starts_apply R i j hr]
  generalize R (ix2 i j) = x at hr
  have hx : x.toInt = (x.toNat : ℤ) := BitVec.toInt_eq_toNat_of_lt (by omega)
  have e0 : (0#32).sle x = true := by rw [BitVec.sle_eq_decide, decide_eq_true_eq, hx]; exact Int.natCast_nonneg _
  have e1 : x.sle 6974#32 = true := by
    rw [BitVec.sle_eq_decide, decide_eq_true_eq, hx, show (6974#32 : BitVec 32).toInt = 6974 from by decide]; omega
  show IntOp.andi (IntOp.andi (BitVec.ofBool ((0#32).sle x)) (BitVec.ofBool (x.sle 6974#32))) 1#1 = 1#1
  rw [e0, e1]
  decide

/-- THE REFERENCE at a place whose word is in range. -/
theorem result_apply (T : Vec Ideal S6975x32 .f32) (R : IVec S1024x1024 32) (h : Fin 32) (i j : Fin 1024)
    (hr : (R (ix2 i j)).toNat < 6975) :
    result T R (ix3 h i j) = T (ix2 (⟨(R (ix2 i j)).toNat, hr⟩ : Fin 6975) h) := by
  pointwise [result]
  rw [inRange_apply R i j hr]
  have hs : starts R (ValueIdx.ix2 (⟨i.val * 1024 + j.val, by omega⟩ : Fin 1048576) (0 : Fin 1))
      = BitVec.ofNat 32 (⟨(R (ix2 i j)).toNat, hr⟩ : Fin 6975).val := by
    rw [← ix2_eq_valueIdx, starts_apply R i j hr]
    exact BitVec.eq_of_toNat_eq (by simp)
  have hg := Routing.gather_row gather_S6975x32_S1048576x1_S1048576x32_1_0_n_n_0_1_132 rfl rfl rfl rfl rfl T (starts R)
    ⟨i.val * 1024 + j.val, by omega⟩ h ⟨(R (ix2 i j)).toNat, hr⟩ hs (by norm_num)
  rw [← ix2_eq_valueIdx, ← ix2_eq_valueIdx] at hg
  rw [hg]
  rfl

end Cert.ReferenceIdeal.Bias

end
-- ==== Proof.Shift.lean ====
/-
  WHAT THE PRECONDITION SAYS, in words of 32 bits and then in natural numbers. Cut into 64 by 64 blocks, the index table
  is its first block moved by 225 rows of the table per block of distance from the diagonal, and the first block's
  indices lie in the sixteenth stretch of 225. So every index is a row of the table, and which row follows from the first
  block alone.
-/
module

public import proofs.«01_k».proof.Proof.Gen.Pre_is_time_shifted
public import Idealize.ShloMosaic.Lib.Pointwise

@[expose] public section

set_option maxRecDepth 16384

noncomputable section

namespace Cert.Pre_is_time_shifted.Bias

open Idealize.ShloMosaic
open Cert.Pre_is_time_shifted Cert.Pre_is_time_shifted.Gen

/-- The index table is block-wise a shift of its first block, whose words lie from 3375 to 3599. -/
structure Shifted (R : IVec S1024x1024 32) : Prop where
  move : ∀ (ti tj : Fin 16) (p q : Fin 64),
    R (ix2 (⟨ti.val * 64 + p.val, by omega⟩ : Fin 1024) (⟨tj.val * 64 + q.val, by omega⟩ : Fin 1024))
      = R (ix2 (⟨p.val, by omega⟩ : Fin 1024) (⟨q.val, by omega⟩ : Fin 1024)) + (BitVec.ofNat 32 ti.val - BitVec.ofNat 32 tj.val) * 225#32
  low : ∀ p q : Fin 64, 3375 ≤ (R (ix2 (⟨p.val, by omega⟩ : Fin 1024) (⟨q.val, by omega⟩ : Fin 1024))).toNat
  high : ∀ p q : Fin 64, (R (ix2 (⟨p.val, by omega⟩ : Fin 1024) (⟨q.val, by omega⟩ : Fin 1024))).toNat < 3600

/-- A word that is at least 3375 and below 3600 as a signed number is so as a natural number. -/
theorem bounds_of_bits (x : BitVec 32) (h : IntOp.andi (IntOp.cmpi .sge x 3375#32) (IntOp.cmpi .slt x 3600#32) = 1#1) :
    3375 ≤ x.toNat ∧ x.toNat < 3600 := by
  have h' : BitVec.ofBool ((3375#32).sle x) &&& BitVec.ofBool (x.slt 3600#32) = 1#1 := h
  have h2 : (3375#32).sle x = true ∧ x.slt 3600#32 = true := by
    cases e1 : (3375#32).sle x <;> cases e2 : x.slt 3600#32 <;> rw [e1, e2] at h' <;> first | exact ⟨rfl, rfl⟩ | exact absurd h' (by decide)
  obtain ⟨h0, h1⟩ := h2
  rw [BitVec.sle_eq_decide, decide_eq_true_eq, show (3375#32 : BitVec 32).toInt = 3375 from by decide] at h0
  rw [BitVec.slt_eq_decide, decide_eq_true_eq, show (3600#32 : BitVec 32).toInt = 3600 from by decide] at h1
  rw [BitVec.toInt_eq_toNat_cond] at h0 h1
  have := x.isLt
  split at h0 <;> omega

/-- An equality test that answers yes is an equality. -/
theorem eq_of_bit (x y : BitVec 32) (h : IntOp.cmpi .eq x y = 1#1) : x = y := by
  have h' : BitVec.ofBool (x == y) = 1#1 := h
  by_contra e
  rw [beq_false_of_ne e] at h'
  exact absurd h' (by decide)

/-- The precondition, read. -/
theorem shifted_of_fn (T : FVec Ideal S6975x32 .f32) (R : IVec S1024x1024 32)
    (h : (fn (F := Ideal) T R).1 = (fun _ => 1#1) ∧ (fn (F := Ideal) T R).2 = fun _ => 1#1) : Shifted R := by
  obtain ⟨h1, h2⟩ := h
  have hb : ∀ p q : Fin 64, 3375 ≤ (R (ix2 (⟨p.val, by omega⟩ : Fin 1024) (⟨q.val, by omega⟩ : Fin 1024))).toNat
      ∧ (R (ix2 (⟨p.val, by omega⟩ : Fin 1024) (⟨q.val, by omega⟩ : Fin 1024))).toNat < 3600 := by
    intro p q
    have e := congrFun h2 (ix2 p q)
    pointwise [fn] at e
    exact bounds_of_bits _ e
  refine ⟨fun ti tj p q => ?_, fun p q => (hb p q).1, fun p q => (hb p q).2⟩
  have e := congrFun h1 (ix4 ti p tj q)
  pointwise [fn] at e
  exact eq_of_bit _ _ e

/-- WHICH ROW each place of the index table names. -/
theorem Shifted.toNat_eq {R : IVec S1024x1024 32} (hR : Shifted R) (i j : Fin 1024) :
    (R (ix2 i j)).toNat + 225 * (j.val / 64)
      = (R (ix2 (⟨i.val % 64, by omega⟩ : Fin 1024) (⟨j.val % 64, by omega⟩ : Fin 1024))).toNat + 225 * (i.val / 64) := by
  have e := hR.move ⟨i.val / 64, by omega⟩ ⟨j.val / 64, by omega⟩ ⟨i.val % 64, by omega⟩ ⟨j.val % 64, by omega⟩
  have l := hR.low ⟨i.val % 64, by omega⟩ ⟨j.val % 64, by omega⟩
  have u := hR.high ⟨i.val % 64, by omega⟩ ⟨j.val % 64, by omega⟩
  have hi : (⟨i.val / 64 * 64 + i.val % 64, by omega⟩ : Fin 1024) = i := Fin.ext (by dsimp only; omega)
  have hj : (⟨j.val / 64 * 64 + j.val % 64, by omega⟩ : Fin 1024) = j := Fin.ext (by dsimp only; omega)
  dsimp only at e l u
  rw [hi, hj] at e
  rw [e]
  generalize R (ix2 (⟨i.val % 64, by omega⟩ : Fin 1024) (⟨j.val % 64, by omega⟩ : Fin 1024)) = x at l u ⊢
  rw [BitVec.toNat_add, BitVec.toNat_mul, BitVec.toNat_sub, BitVec.toNat_ofNat, BitVec.toNat_ofNat]
  have hti : i.val / 64 < 16 := by omega
  have htj : j.val / 64 < 16 := by omega
  generalize i.val / 64 = ti at hti ⊢
  generalize j.val / 64 = tj at htj ⊢
  simp only [BitVec.toNat_ofNat]
  omega

/-- Every index is a row of the table. -/
theorem Shifted.inRange {R : IVec S1024x1024 32} (hR : Shifted R) (i j : Fin 1024) : (R (ix2 i j)).toNat < 6975 := by
  have e := hR.toNat_eq i j
  have l := hR.low ⟨i.val % 64, by omega⟩ ⟨j.val % 64, by omega⟩
  have u := hR.high ⟨i.val % 64, by omega⟩ ⟨j.val % 64, by omega⟩
  dsimp only at l u
  omega

end Cert.Pre_is_time_shifted.Bias

end
-- ==== Proof.Equation.lean ====
/-
  THE EQUATION. A column of the one-hot matrix has a single one, so each sum over the 256 columns of a padded row is one
  entry of the table; the row and the column that the kernel uses at a place of the result are, under the precondition,
  the quotient and the remainder by 225 of the index that the reference looks up there.
-/
module

public import proofs.«01_k».proof.Proof.Host
public import proofs.«01_k».proof.Proof.Reference
public import proofs.«01_k».proof.Proof.Shift

@[expose] public section

set_option maxRecDepth 16384

noncomputable section

namespace Cert.KernelIdeal.Bias

open Idealize.ShloMosaic Idealize.ShloMosaic.TcCoe Idealize.ShloMosaic.Tactic
open Cert.KernelIdeal Cert.KernelIdeal.Gen Cert.KernelIdeal.Value
open Cert.Pre_is_time_shifted.Bias (Shifted)

variable (m : (ℓ : Loc nD τ sig) → Buf (Elt Ideal) ℓ) (c : Dev nD)

/-- The sum over a padded row against the column of the place `(p, q)` of the first block is the row's entry at that
place's own offset: every other term is a product with zero. -/
theorem pick (hR : Shifted (rel m c)) (a : Fin 31) (h : Fin 32) (p q : Fin 64) (n : Fin 6975)
    (hn : n.val + 3375 = a.val * 225 + (rel m c (ix2 (⟨p.val, by omega⟩ : Fin 1024) (⟨q.val, by omega⟩ : Fin 1024))).toNat) :
    ∑ w : Fin 256, tab m c (ix3 a h w) * hot m c (ix2 w (⟨p.val * 64 + q.val, by omega⟩ : Fin 4096)) = table m c (ix2 n h) := by
  have l := hR.low p q
  have u := hR.high p q
  simp only [hot_apply]
  generalize rel m c (ix2 (⟨p.val, by omega⟩ : Fin 1024) (⟨q.val, by omega⟩ : Fin 1024)) = x at l u hn ⊢
  have hx : ∀ w : Fin 256, x - 3375#32 = BitVec.ofNat 32 w.val ↔ w.val = x.toNat - 3375 := by
    intro w
    rw [← BitVec.toNat_inj, BitVec.toNat_sub, BitVec.toNat_ofNat, BitVec.toNat_ofNat]
    omega
  rw [Finset.sum_eq_single (⟨x.toNat - 3375, by omega⟩ : Fin 256)]
  · rw [if_pos ((hx _).2 rfl), tab_apply m c a h _ (by dsimp only; omega)]
    have e : (⟨a.val * 225 + (x.toNat - 3375), by omega⟩ : Fin 6975) = n := Fin.ext (by dsimp only; omega)
    dsimp only
    rw [e]
    exact mul_one _
  · intro w _ hw
    rw [if_neg (fun e => hw (Fin.ext ((hx w).1 e)))]
    exact mul_zero _
  · exact fun e => absurd (Finset.mem_univ _) e

/-- THE KERNEL'S RESULT at `(h, i, j)`: the table's entry `h` of the row that the index table names at `(i, j)`. -/
theorem kernel_apply (hR : Shifted (rel m c)) (h : Fin 32) (i j : Fin 1024) :
    (G2 m c : Vec Ideal S32x1024x1024 .f32) (ix3 h i j)
      = table m c (ix2 (⟨(rel m c (ix2 i j)).toNat, hR.inRange i j⟩ : Fin 6975) h) := by
  rw [result_apply]
  unfold tile
  have hcol : (⟨i.val % 64 * 64 + j.val % 128 % 64, by omega⟩ : Fin 4096) = ⟨i.val % 64 * 64 + j.val % 64, by omega⟩ :=
    Fin.ext (by dsimp only; omega)
  dsimp only
  rw [hcol]
  refine pick m c hR _ h ⟨i.val % 64, by omega⟩ ⟨j.val % 64, by omega⟩ _ ?_
  have e := hR.toNat_eq i j
  unfold rowOf
  dsimp only at e ⊢
  split <;> omega

/-- THE REFERENCE AND THE KERNEL leave the same array. -/
theorem equation (hR : Shifted (rel m c)) :
    Cert.ReferenceIdeal.Bias.result (table m c) (rel m c) = (G2 m c : Vec Ideal S32x1024x1024 .f32) := by
  funext y
  idx_vars y
  rw [kernel_apply m c hR, Cert.ReferenceIdeal.Bias.result_apply _ _ _ _ _ (hR.inRange _ _)]

end Cert.KernelIdeal.Bias

end
-- ==== Proof.lean ====
/-
The claims, assembled. The mathematics is in `Proof.Tile` (what one grid step stores), `Proof.Array` (the whole result),
`Proof.Host` (the two arrays the host prepares), `Proof.Reference` (the reference at one index), `Proof.Shift` (what the
precondition says of the index table) and `Proof.Equation` (the two results are equal).
-/
module

public import proofs.«01_k».proof.Defs
public import proofs.«01_k».proof.Proof.Gen.Kernel.Frame
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from every memory, leaves its arguments as they were, and every semaphore reads zero at the end
    (the program has none). -/
theorem quiescent_ReferenceIdeal : quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference, run at exact arithmetic from the same two arrays, end with the same result on every
    device, whenever the index table meets the precondition. -/
theorem algebraic_KernelIdeal_ReferenceIdeal_pre_is_time_shifted :
    algebraic_KernelIdeal_ReferenceIdeal_pre_is_time_shifted := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2]
  exact Cert.KernelIdeal.Bias.equation m c (Cert.Pre_is_time_shifted.Bias.shifted_of_fn _ _ (hpre c))

/-- Every claim of the certificate. -/
theorem claim : Cert.Claim :=
  ⟨Cert.Kernel.Gen.facts, Cert.KernelIdeal.Gen.facts, Cert.ReferenceIdeal.Gen.facts, Cert.Pre_is_time_shifted.Gen.facts,
    fun m ρ _ => Cert.Kernel.Gen.frame m ρ,
    fun m ρ _ => Cert.KernelIdeal.Gen.frame m ρ,
    fun m ρ _ => Cert.KernelIdeal.Gen.frame m ρ,
    quiescent_ReferenceIdeal,
    fun m ρ _ => quiescent_ReferenceIdeal m ρ trivial,
    trivial,
    algebraic_KernelIdeal_ReferenceIdeal_pre_is_time_shifted⟩

end Cert.Proof

end
